-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x512 : Shape := ⟨3, ![16, 4096, 512]⟩
abbrev S16x4160x512 : Shape := ⟨3, ![16, 4160, 512]⟩
abbrev S4x4096x512 : Shape := ⟨3, ![4, 4096, 512]⟩
abbrev S16x64x512 : Shape := ⟨3, ![16, 64, 512]⟩
abbrev S4 : Shape := ⟨1, ![4]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩

abbrev nBuf : Space → Nat
  | .hbm => 2
  | .vmem => 4
  | .smem => 0
  | _ => 0

abbrev bufTy : (tb : Table) → Fin (tcTables nBuf tb) → BufTy
  | .hbm, ⟨0, _⟩ => ⟨S16x4096x512, .f32⟩
  | .hbm, ⟨1, _⟩ => ⟨S16x4160x512, .f32⟩
  | .local _ .vmem, ⟨0, _⟩ => ⟨S4x4096x512, .f32⟩
  | .local _ .vmem, ⟨1, _⟩ => ⟨S16x64x512, .f32⟩
  | .local _ .vmem, ⟨2, _⟩ => ⟨S16x64x512, .f32⟩
  | .local _ .vmem, ⟨3, _⟩ => ⟨S16x64x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := .none
-- ==== ReferenceIdeal.lean ====
abbrev S16x4096x512 : Shape := ⟨3, ![16, 4096, 512]⟩
abbrev S64x2 : Shape := ⟨2, ![64, 2]⟩
abbrev S_ : Shape := ⟨0, ![]⟩
abbrev S64x2x1 : Shape := ⟨3, ![64, 2, 1]⟩
abbrev S16x64x2x512 : Shape := ⟨4, ![16, 64, 2, 512]⟩
abbrev S16x64x512 : Shape := ⟨3, ![16, 64, 512]⟩
abbrev S16x4160x512 : Shape := ⟨3, ![16, 4160, 512]⟩

abbrev nBuf : Space → Nat
  | .hbm => 17
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S64x2, .i32⟩
  | .hbm, ⟨2, _⟩ => ⟨S_, .i32⟩
  | .hbm, ⟨3, _⟩ => ⟨S64x2, .i32⟩
  | .hbm, ⟨4, _⟩ => ⟨S64x2, .i1⟩
  | .hbm, ⟨5, _⟩ => ⟨S_, .i32⟩
  | .hbm, ⟨6, _⟩ => ⟨S64x2, .i32⟩
  | .hbm, ⟨7, _⟩ => ⟨S64x2, .i32⟩
  | .hbm, ⟨8, _⟩ => ⟨S64x2, .i32⟩
  | .hbm, ⟨9, _⟩ => ⟨S64x2x1, .i32⟩
  | .hbm, ⟨10, _⟩ => ⟨S16x64x2x512, .f32⟩
  | .hbm, ⟨11, _⟩ => ⟨S_, .f32⟩
  | .hbm, ⟨12, _⟩ => ⟨S16x64x512, .f32⟩
  | .hbm, ⟨13, _⟩ => ⟨S_, .f32⟩
  | .hbm, ⟨14, _⟩ => ⟨S16x64x512, .f32⟩
  | .hbm, ⟨15, _⟩ => ⟨S16x64x512, .f32⟩
  | .hbm, ⟨16, _⟩ => ⟨S16x4160x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Unpool.Pieces.lean ====
/-
  What the unpooling kernel's body addresses and what its result holds: the result's sixteen row blocks and its tail, the
  four slots of the block ring, the pieces' element sets, and the array `unpool x` that the result is to hold, read
  through each of these pieces.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Routed
public import Idealize.ShloMosaic.Lib.Ring
public import Idealize.ShloMosaic.Lib.Tactic
public import Idealize.ShloMosaic.Lib.ViewIndex
public import Idealize.ShloMosaic.Lib.ValueIdxCore
public import Idealize.ShloMosaic.Lib.Pipeline.ValueKit.Geometry

@[expose] public section

set_option maxRecDepth 16384

noncomputable section

namespace Cert.KernelIdeal.Unpool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)

variable {F : FTy → Type} [FloatOps F]

local notation "𝕄" => MT nD τ sig Unit (Elt F) ℕ (Pipeline.UC sig nD τ) ℕ

/-! ## The operands -/

/-- The argument, the result, the ring of block buffers, the two edge-end buffers and the midpoint buffer, each whole. -/
abbrev aM : Memref sig .tc .hbm S16x4096x512 .f32 := Memref.whole main_arg0
abbrev oM : Memref sig .tc .hbm S16x4160x512 .f32 := Memref.whole main_v0
abbrev bufM : Memref sig .tc .vmem S4x4096x512 .f32 := Memref.whole cc0_scratch0
abbrev loM : Memref sig .tc .vmem S16x64x512 .f32 := Memref.whole cc0_scratch1
abbrev hiM : Memref sig .tc .vmem S16x64x512 .f32 := Memref.whole cc0_scratch2
abbrev tailM : Memref sig .tc .vmem S16x64x512 .f32 := Memref.whole cc0_scratch3

theorem oOff_inb (n : ℕ) : ∀ a, (![n % 16, 0, 0] : Fin 3 → ℕ) a + S1x4096x512.size a ≤ S16x4160x512.size a := by
  intro a; fin_cases a
  · show n % 16 + 1 ≤ 16; omega
  · show 0 + 4096 ≤ 4160; omega
  · show 0 + 512 ≤ 512; omega
theorem sOff_inb (n : ℕ) : ∀ a, (![n % 4, 0, 0] : Fin 3 → ℕ) a + S1x4096x512.size a ≤ S4x4096x512.size a := by
  intro a; fin_cases a
  · show n % 4 + 1 ≤ 4; omega
  · show 0 + 4096 ≤ 4096; omega
  · show 0 + 512 ≤ 512; omega

/-- The first 4096 rows of the result's batch entry `n`, as the body slices and squeezes them. -/
def oBlk (n : ℕ) : Memref sig .tc .hbm S4096x512 .f32 :=
  (oM.slice (Rect.unit (s := S16x4160x512) ![n % 16, 0, 0] S1x4096x512.size (oOff_inb n)) (fun _ => rfl)).squeeze S4096x512 squeezes_S1x4096x512_S4096x512
/-- Slot `n` of the ring, as the body slices and squeezes it. -/
def slot (n : ℕ) : Memref sig .tc .vmem S4096x512 .f32 :=
  (bufM.slice (Rect.unit (s := S4x4096x512) ![n % 4, 0, 0] S1x4096x512.size (sOff_inb n)) (fun _ => rfl)).squeeze S4096x512 squeezes_S1x4096x512_S4096x512
/-- The last 64 rows of every batch entry of the result. -/
abbrev oTail : Memref sig .tc .hbm S16x64x512 .f32 :=
  oM.slice (Rect.unit (s := S16x4160x512) ![0, 4096, 0] S16x64x512.size inb_S16x4160x512_S16x64x512_0_4096_0) (fun _ => rfl)

/-- The body's literal slices under these names. -/
@[sl_canon] theorem oBlk_lit (n : ℕ) (hh hs) :
    (oM.slice (Rect.unit (s := S16x4160x512) ![n, 0, 0] S1x4096x512.size hh) hs).squeeze S4096x512 squeezes_S1x4096x512_S4096x512 = oBlk n := by
  have hn : n + 1 ≤ 16 := hh 0
  have e : (![n, 0, 0] : Fin 3 → ℕ) = ![n % 16, 0, 0] := by rw [Nat.mod_eq_of_lt (by omega)]
  exact congrArg (fun M : Memref sig .tc .hbm S1x4096x512 .f32 => M.squeeze S4096x512 squeezes_S1x4096x512_S4096x512) (Memref.slice_unit_congr _ e _ _ _ _)
@[sl_canon] theorem slot_lit (n : ℕ) (hh hs) :
    (bufM.slice (Rect.unit (s := S4x4096x512) ![n, 0, 0] S1x4096x512.size hh) hs).squeeze S4096x512 squeezes_S1x4096x512_S4096x512 = slot n := by
  have hn : n + 1 ≤ 4 := hh 0
  have e : (![n, 0, 0] : Fin 3 → ℕ) = ![n % 4, 0, 0] := by rw [Nat.mod_eq_of_lt (by omega)]
  exact congrArg (fun M : Memref sig .tc .vmem S1x4096x512 .f32 => M.squeeze S4096x512 squeezes_S1x4096x512_S4096x512) (Memref.slice_unit_congr _ e _ _ _ _)

/-! ## What the body holds -/

section Pieces
variable (c : Dev nD)

abbrev ABuf : Type := Buf (Elt F) (aM.view.loc (c : Thread nD τ))
abbrev OBuf : Type := Buf (Elt F) (oM.view.loc (c : Thread nD τ))

/-- A semaphore of the pool at zero. -/
abbrev cellP (j : DmaSem sig) : sProp 𝕄 := semVal ((c : Thread nD τ), SemLoc.dma j) 0
/-- The read token of the argument that semaphore `j`'s transfer takes. -/
abbrev tokP (x : ABuf (F := F) c) (j : ℕ) : sProp 𝕄 := aM.view.loc (c : Thread nD τ) ↦{Transfers.shareTokN fullShare j} x
/-- Row block `n` of the result at the contents `f`. -/
abbrev oP (f : OBuf (F := F) c) (n : ℕ) : sProp 𝕄 := (oBlk n).view.loc (c : Thread nD τ) ↦[(oBlk n).view.set]{fullShare} f
/-- The result's tail at the contents `f`. -/
abbrev oTailP (f : OBuf (F := F) c) : sProp 𝕄 := oTail.view.loc (c : Thread nD τ) ↦[oTail.view.set]{fullShare} f
/-- Slot `n` of the ring at the contents `f`. -/
abbrev slotP (n : ℕ) (f : Buf (Elt F) (bufM.view.loc (c : Thread nD τ))) : sProp 𝕄 := (slot n).view.loc (c : Thread nD τ) ↦[(slot n).view.set]{fullShare} f
end Pieces

/-! ## Their element sets -/

/-- The element sets of a row block, of the tail and of a slot, as sets of indices of the array. -/
abbrev oRows (n : ℕ) : Finset S16x4160x512.Idx := (Rect.unit (s := S16x4160x512) ![n % 16, 0, 0] S1x4096x512.size (oOff_inb n)).set
abbrev oLast : Finset S16x4160x512.Idx := (Rect.unit (s := S16x4160x512) ![0, 4096, 0] S16x64x512.size inb_S16x4160x512_S16x64x512_0_4096_0).set
abbrev slotRows (n : ℕ) : Finset S4x4096x512.Idx := (Rect.unit (s := S4x4096x512) ![n % 4, 0, 0] S1x4096x512.size (sOff_inb n)).set

theorem oBlk_set (n : ℕ) : (oBlk n).view.set = oRows n := (View.set_reshape _ _).trans (View.set_slice_whole _ _)
theorem oTail_set : oTail.view.set = oLast := View.set_slice_whole _ _
theorem slot_set (n : ℕ) : (slot n).view.set = slotRows n := (View.set_reshape _ _).trans (View.set_slice_whole _ _)

/-- An element of the result lies in row block `n` when its batch coordinate is `n` and its row is below 4096. -/
theorem mem_oRows (n : ℕ) (hn : n < 16) (y : S16x4160x512.Idx) : y ∈ oRows n ↔ (y 0).val = n ∧ (y 1).val < 4096 := by
  rw [Rect.mem_set_unit]
  have h1 : (y 1).val < 4160 := (y 1).isLt
  have h2 : (y 2).val < 512 := (y 2).isLt
  have e : n % 16 = n := Nat.mod_eq_of_lt hn
  constructor
  · intro H
    have a0 : n % 16 ≤ (y 0).val ∧ (y 0).val < n % 16 + 1 := H 0
    have a1 : 0 ≤ (y 1).val ∧ (y 1).val < 0 + 4096 := H 1
    omega
  · intro H i; fin_cases i
    · show n % 16 ≤ (y 0).val ∧ (y 0).val < n % 16 + 1; omega
    · show 0 ≤ (y 1).val ∧ (y 1).val < 0 + 4096; omega
    · show 0 ≤ (y 2).val ∧ (y 2).val < 0 + 512; omega
/-- An element of the result lies in the tail when its row is 4096 or more. -/
theorem mem_oLast (y : S16x4160x512.Idx) : y ∈ oLast ↔ 4096 ≤ (y 1).val := by
  rw [Rect.mem_set_unit]
  have h0 : (y 0).val < 16 := (y 0).isLt
  have h1 : (y 1).val < 4160 := (y 1).isLt
  have h2 : (y 2).val < 512 := (y 2).isLt
  constructor
  · intro H
    have a1 : 4096 ≤ (y 1).val ∧ (y 1).val < 4096 + 64 := H 1
    omega
  · intro H i; fin_cases i
    · show 0 ≤ (y 0).val ∧ (y 0).val < 0 + 16; omega
    · show 4096 ≤ (y 1).val ∧ (y 1).val < 4096 + 64; omega
    · show 0 ≤ (y 2).val ∧ (y 2).val < 0 + 512; omega
/-- An element of the ring lies in slot `n` when its leading coordinate is `n`. -/
theorem mem_slotRows (n : ℕ) (hn : n < 4) (y : S4x4096x512.Idx) : y ∈ slotRows n ↔ (y 0).val = n := by
  rw [Rect.mem_set_unit]
  have h1 : (y 1).val < 4096 := (y 1).isLt
  have h2 : (y 2).val < 512 := (y 2).isLt
  have e : n % 4 = n := Nat.mod_eq_of_lt hn
  constructor
  · intro H
    have a0 : n % 4 ≤ (y 0).val ∧ (y 0).val < n % 4 + 1 := H 0
    omega
  · intro H i; fin_cases i
    · show n % 4 ≤ (y 0).val ∧ (y 0).val < n % 4 + 1; omega
    · show 0 ≤ (y 1).val ∧ (y 1).val < 0 + 4096; omega
    · show 0 ≤ (y 2).val ∧ (y 2).val < 0 + 512; omega

/-- The result's seventeen pieces: its row blocks, then its tail. -/
def oSet (n : Fin 17) : Finset S16x4160x512.Idx := if n.val < 16 then oRows n.val else oLast

theorem mem_oSet (n : Fin 17) (y : S16x4160x512.Idx) :
    y ∈ oSet n ↔ (n.val < 16 ∧ (y 0).val = n.val ∧ (y 1).val < 4096) ∨ (n.val = 16 ∧ 4096 ≤ (y 1).val) := by
  have hn : n.val < 17 := n.isLt
  unfold oSet
  split
  · rename_i h; rw [mem_oRows _ h]; omega
  · rename_i h; rw [mem_oLast]; omega
theorem oSet_disjoint : ∀ a b : Fin 17, a ≠ b → Disjoint (oSet a) (oSet b) := by
  intro a b hne; rw [Finset.disjoint_left]; intro y ha hb; rw [mem_oSet] at ha hb
  exact hne (Fin.ext (by omega))
theorem oSet_cover : Finset.univ.biUnion oSet = (Finset.univ : Finset S16x4160x512.Idx) := by
  ext y
  rw [Finset.mem_biUnion]
  have h0 : (y 0).val < 16 := (y 0).isLt
  refine ⟨fun _ => Finset.mem_univ _, fun _ => ?_⟩
  by_cases h : (y 1).val < 4096
  · exact ⟨⟨(y 0).val, by omega⟩, Finset.mem_univ _, (mem_oSet _ _).mpr (.inl ⟨h0, rfl, h⟩)⟩
  · exact ⟨⟨16, by omega⟩, Finset.mem_univ _, (mem_oSet _ _).mpr (.inr ⟨rfl, by omega⟩)⟩

theorem slot_disjoint : ∀ a b : Fin 4, a ≠ b → Disjoint (slotRows a.val) (slotRows b.val) := by
  intro a b hne; rw [Finset.disjoint_left]; intro y ha hb
  rw [mem_slotRows _ a.isLt] at ha; rw [mem_slotRows _ b.isLt] at hb
  exact hne (Fin.ext (ha.symm.trans hb))
theorem slot_cover : (Finset.univ.biUnion fun a : Fin 4 => slotRows a.val) = (Finset.univ : Finset S4x4096x512.Idx) := by
  ext y
  rw [Finset.mem_biUnion]
  exact ⟨fun _ => Finset.mem_univ _, fun _ => ⟨⟨(y 0).val, (y 0).isLt⟩, Finset.mem_univ _, (mem_slotRows _ (y 0).isLt y).mpr rfl⟩⟩

/-! ## What the result is to hold -/

theorem aOff_inb (n : ℕ) : ∀ a, (![n % 16, 0, 0] : Fin 3 → ℕ) a + S1x4096x512.size a ≤ S16x4096x512.size a := by
  intro a; fin_cases a
  · show n % 16 + 1 ≤ 16; omega
  · show 0 + 4096 ≤ 4096; omega
  · show 0 + 512 ≤ 512; omega

/-- Batch entry `n` of the argument, as the body slices and squeezes it. -/
abbrev aBlk (n : ℕ) : Memref sig .tc .hbm S4096x512 .f32 :=
  (aM.slice (Rect.unit (s := S16x4096x512) ![n % 16, 0, 0] S1x4096x512.size (aOff_inb n)) (fun _ => rfl)).squeeze S4096x512 squeezes_S1x4096x512_S4096x512
/-- The argument's rows 0 to 63, and its rows 2048 to 2111, of every batch entry. -/
abbrev aLo : Memref sig .tc .hbm S16x64x512 .f32 :=
  aM.slice (Rect.unit (s := S16x4096x512) ![0, 0, 0] S16x64x512.size inb_S16x4096x512_S16x64x512_0_0_0) (fun _ => rfl)
abbrev aHi : Memref sig .tc .hbm S16x64x512 .f32 :=
  aM.slice (Rect.unit (s := S16x4096x512) ![0, 2048, 0] S16x64x512.size inb_S16x4096x512_S16x64x512_0_2048_0) (fun _ => rfl)

/-- Sixty-four rows of every batch entry of `x`, from row `off` on. -/
def rowsFrom (off : ℕ) (h : off + 64 ≤ 4096) (x : S16x4096x512.Idx → Elt F .f32) : S16x64x512.Idx → Elt F .f32 :=
  fun z => x (ix3 (n0 := 16) (n1 := 4096) (n2 := 512) (z 0) ⟨off + (z 1).val, by have h1 : (z 1).val < 64 := (z 1).isLt; omega⟩ (z 2))

/-- The sixty-four new rows of every batch entry: half the sum of rows 0 to 63 and rows 2048 to 2111. -/
def midpoints (x : S16x4096x512.Idx → Elt F .f32) : S16x64x512.Idx → Elt F .f32 :=
  k0_pay1 (rowsFrom 0 (by omega) x) (rowsFrom 2048 (by omega) x)

/-- What the result is to hold: the argument's rows, then the new rows. -/
def unpool (x : S16x4096x512.Idx → Elt F .f32) : S16x4160x512.Idx → Elt F .f32 :=
  fun i => if h : (i 1).val < 4096 then x (ix3 (n0 := 16) (n1 := 4096) (n2 := 512) (i 0) ⟨(i 1).val, h⟩ (i 2))
    else midpoints x (ix3 (n0 := 16) (n1 := 64) (n2 := 512) (i 0) ⟨(i 1).val - 4096, by have h1 : (i 1).val < 4160 := (i 1).isLt; omega⟩ (i 2))

/-- A row block of it reads as the argument's batch entry, … -/
theorem read_oBlk_unpool (n : ℕ) (x : S16x4096x512.Idx → Elt F .f32) :
    (oBlk n).view.read (Elt F) (unpool x) = (aBlk n).view.read (Elt F) x := by
  funext y
  generalize hz : Shape.reshapeEquiv squeezes_S1x4096x512_S4096x512.numel_eq y = z
  have hl : (oBlk n).view.read (Elt F) (unpool x) y = unpool x ((Rect.unit (s := S16x4160x512) ![n % 16, 0, 0] S1x4096x512.size (oOff_inb n)).emb z) := by
    subst hz; rfl
  have hr : (aBlk n).view.read (Elt F) x y = x ((Rect.unit (s := S16x4096x512) ![n % 16, 0, 0] S1x4096x512.size (aOff_inb n)).emb z) := by
    subst hz; rfl
  rw [hl, hr]
  have hz1 : (z 1).val < 4096 := (z 1).isLt
  have e1 : (((Rect.unit (s := S16x4160x512) ![n % 16, 0, 0] S1x4096x512.size (oOff_inb n)).emb z) 1).val = 0 + (z 1).val := ValueKit.rect_emb_unit_val _ _ _ _ _
  have f1 : (((Rect.unit (s := S16x4096x512) ![n % 16, 0, 0] S1x4096x512.size (aOff_inb n)).emb z) 1).val = 0 + (z 1).val := ValueKit.rect_emb_unit_val _ _ _ _ _
  unfold unpool
  rw [dif_pos (by rw [e1]; omega)]
  refine congrArg x (Shape.idx3_ext ?_ ?_ ?_)
  · exact (ValueKit.rect_emb_unit_val _ _ _ _ _).trans (ValueKit.rect_emb_unit_val _ _ _ _ _).symm
  · exact e1.trans f1.symm
  · exact (ValueKit.rect_emb_unit_val _ _ _ _ _).trans (ValueKit.rect_emb_unit_val _ _ _ _ _).symm

/-- … its tail as the new rows. -/
theorem read_oTail_unpool (x : S16x4096x512.Idx → Elt F .f32) : oTail.view.read (Elt F) (unpool x) = midpoints x := by
  funext z
  have e0 : (((Rect.unit (s := S16x4160x512) ![0, 4096, 0] S16x64x512.size inb_S16x4160x512_S16x64x512_0_4096_0).emb z) 0).val = 0 + (z 0).val := ValueKit.rect_emb_unit_val _ _ _ _ _
  have e1 : (((Rect.unit (s := S16x4160x512) ![0, 4096, 0] S16x64x512.size inb_S16x4160x512_S16x64x512_0_4096_0).emb z) 1).val = 4096 + (z 1).val := ValueKit.rect_emb_unit_val _ _ _ _ _
  have e2 : (((Rect.unit (s := S16x4160x512) ![0, 4096, 0] S16x64x512.size inb_S16x4160x512_S16x64x512_0_4096_0).emb z) 2).val = 0 + (z 2).val := ValueKit.rect_emb_unit_val _ _ _ _ _
  show unpool x ((Rect.unit (s := S16x4160x512) ![0, 4096, 0] S16x64x512.size inb_S16x4160x512_S16x64x512_0_4096_0).emb z) = _
  unfold unpool
  rw [dif_neg (by rw [e1]; omega)]
  refine congrArg (midpoints x) (Shape.idx3_ext ?_ ?_ ?_)
  · exact e0.trans (Nat.zero_add _)
  · show _ - 4096 = _; rw [e1]; omega
  · exact e2.trans (Nat.zero_add _)

/-- The two windows of edge ends read as the rows they name. -/
theorem read_aLo (x : S16x4096x512.Idx → Elt F .f32) : aLo.view.read (Elt F) x = rowsFrom 0 (by omega) x := by
  funext z
  refine congrArg x (Shape.idx3_ext ?_ ?_ ?_)
  · exact (ValueKit.rect_emb_unit_val _ _ _ _ _).trans (Nat.zero_add _)
  · exact ValueKit.rect_emb_unit_val _ _ _ _ _
  · exact (ValueKit.rect_emb_unit_val _ _ _ _ _).trans (Nat.zero_add _)
theorem read_aHi (x : S16x4096x512.Idx → Elt F .f32) : aHi.view.read (Elt F) x = rowsFrom 2048 (by omega) x := by
  funext z
  refine congrArg x (Shape.idx3_ext ?_ ?_ ?_)
  · exact (ValueKit.rect_emb_unit_val _ _ _ _ _).trans (Nat.zero_add _)
  · exact ValueKit.rect_emb_unit_val _ _ _ _ _
  · exact (ValueKit.rect_emb_unit_val _ _ _ _ _).trans (Nat.zero_add _)

/-! ## A piece filled by a transfer -/

/-- A view reads its last whole write. -/
theorem read_writes_whole_cons {κ : Kind} {sp : Space} {s : Shape} {e : EltTy} (v : View sig κ sp s e) (f : v.ty.Contents (Elt F)) (p : s.Idx → Elt F e)
    (L : List (View.Piece (Elt F) s e)) : v.read (Elt F) (v.writes (Elt F) f (⟨Rect.whole s, p⟩ :: L)) = p := by
  rw [← View.write_univ_eq_writes_whole, View.read_write_univ]

section Filled
variable (c : Dev nD)

/-- A piece that was filled whole by what `g` reads through it is held at `g`. -/
theorem filled {sp : Space} {s : Shape} {e : EltTy} (M : Memref sig .tc sp s e) (f g : Buf (Elt F) (M.view.loc (c : Thread nD τ))) (p : s.Idx → Elt F e)
    (h : M.view.read (Elt F) g = p) :
    (M.view.loc (c : Thread nD τ) ↦[M.view.set]{fullShare} M.view.writes (Elt F) f [⟨Rect.whole s, p⟩] : sProp 𝕄)
      = M.view.loc (c : Thread nD τ) ↦[M.view.set]{fullShare} g := by
  refine pointsTo_congr fun i hi => ?_
  obtain ⟨y, -, rfl⟩ := Finset.mem_map.mp hi
  exact View.eq_of_read_eq (v := M.view) (congrFun ((read_writes_whole_cons M.view f p []).trans h.symm) y)

/-- A row block of the result, filled from a ring slot that was last filled with the argument's batch entry, is held at
    `unpool x`. -/
theorem oP_filled (x : ABuf (F := F) c) (o : OBuf (F := F) c) (b : Buf (Elt F) (bufM.view.loc (c : Thread nD τ))) (n k : ℕ) (L : List (View.Piece (Elt F) S4096x512 .f32)) :
    ((oBlk n).view.loc (c : Thread nD τ) ↦[(oBlk n).view.set]{fullShare} (oBlk n).view.writes (Elt F) o
        [⟨Rect.whole S4096x512, ReadAs.same.apply ((slot k).view.read (Elt F) ((slot k).view.writes (Elt F) b
          (⟨Rect.whole S4096x512, ReadAs.same.apply ((aBlk n).view.read (Elt F) x)⟩ :: L)))⟩] : sProp 𝕄)
      ⊢ oP c (unpool x) n := by
  refine Entails.of_eq (filled c (oBlk n) o (unpool x) _ ?_)
  rw [read_oBlk_unpool]
  exact (read_writes_whole_cons (slot k).view b _ L).symm
end Filled

end Cert.KernelIdeal.Unpool

end
-- ==== Proof.Unpool.Run.lean ====
/-
  The body of the unpooling kernel, run once: its transfers, its waits and its one vector computation, from the argument
  held as read tokens (one per semaphore), the result held as sixteen row blocks and one tail block, and the block ring
  held as its four slots.
-/
module

public import proofs.«01_k».proof.Proof.Unpool.Pieces
public import Idealize.ShloMosaic.Lib.VecWindow

@[expose] public section

set_option maxRecDepth 16384

noncomputable section

namespace Cert.KernelIdeal.Unpool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-- The result's tail, filled from the midpoint buffer, which was filled with the vector computation of the two windows of edge
    ends, is held at `unpool x`. -/
theorem oTailP_filled (c : Dev nD) (x : ABuf (F := F) c) (o : OBuf (F := F) c) (lo : Buf (Elt F) (loM.view.loc (c : Thread nD τ)))
    (hi : Buf (Elt F) (hiM.view.loc (c : Thread nD τ))) (tl : Buf (Elt F) (tailM.view.loc (c : Thread nD τ))) :
    (oTail.view.loc (c : Thread nD τ) ↦[oTail.view.set]{fullShare} oTail.view.writes (Elt F) o
        [⟨Rect.whole S16x64x512, ReadAs.same.apply (tailM.view.read (Elt F) (tailM.view.writes (Elt F) tl
          [⟨Rect.unit (s := S16x64x512) ![0, 0, 0] S16x64x512.size inb_S16x64x512_S16x64x512_0_0_0,
            k0_pay2 (k0_pay1
              (loM.view.readAt (Elt F) (Rect.unit (s := S16x64x512) ![0, 0, 0] S16x64x512.size inb_S16x64x512_S16x64x512_0_0_0).toLoadRect
                (loM.view.write (Elt F) lo (ReadAs.same.apply (aLo.view.read (Elt F) x)) Finset.univ))
              (hiM.view.readAt (Elt F) (Rect.unit (s := S16x64x512) ![0, 0, 0] S16x64x512.size inb_S16x64x512_S16x64x512_0_0_0).toLoadRect
                (hiM.view.write (Elt F) hi (ReadAs.same.apply (aHi.view.read (Elt F) x)) Finset.univ)))⟩]))⟩] : sProp 𝕄)
      ⊢ oTailP c (unpool x) := by
  refine Entails.of_eq (filled c oTail o (unpool x) _ ?_)
  rw [read_oTail_unpool]
  symm
  refine (View.read_writes_full tailM.view tl _ _ _).trans ?_
  rw [View.readAt_full, View.readAt_full, View.read_write_univ, View.read_write_univ]
  refine (shapeCast_self _ _).trans ?_
  show k0_pay1 (aLo.view.read (Elt F) x) (aHi.view.read (Elt F) x) = _
  rw [read_aLo, read_aHi]; rfl

section Groups
variable (c : Dev nD)

/-- The six read tokens of the argument that the body's copies out of it take. -/
abbrev toksP (x : ABuf (F := F) c) : sProp 𝕄 := iprop(tokP c x 0 ∗ tokP c x 1 ∗ tokP c x 2 ∗ tokP c x 3 ∗ tokP c x 8 ∗ tokP c x 9)
/-- The result in its seventeen pieces, all at the contents `f`. -/
abbrev outP (f : OBuf (F := F) c) : sProp 𝕄 :=
  iprop(oP c f 0 ∗ oP c f 1 ∗ oP c f 2 ∗ oP c f 3 ∗ oP c f 4 ∗ oP c f 5 ∗ oP c f 6 ∗ oP c f 7
    ∗ oP c f 8 ∗ oP c f 9 ∗ oP c f 10 ∗ oP c f 11 ∗ oP c f 12 ∗ oP c f 13 ∗ oP c f 14 ∗ oP c f 15 ∗ oTailP c f)
/-- The ring's four slots, each at some contents. -/
abbrev ringP : sProp 𝕄 := iprop((∃ b, slotP c 0 b) ∗ (∃ b, slotP c 1 b) ∗ (∃ b, slotP c 2 b) ∗ (∃ b, slotP c 3 b))
/-- The three edge buffers, each at some contents. -/
abbrev edgesP : sProp 𝕄 :=
  iprop((∃ f, loM.view.loc (c : Thread nD τ) ↦{fullShare} f) ∗ (∃ f, hiM.view.loc (c : Thread nD τ) ↦{fullShare} f)
    ∗ (∃ f, tailM.view.loc (c : Thread nD τ) ↦{fullShare} f))
/-- The eleven semaphores at zero. -/
abbrev cellsP : sProp 𝕄 :=
  iprop(cellP c 0 ∗ cellP c 1 ∗ cellP c 2 ∗ cellP c 3 ∗ cellP c 4 ∗ cellP c 5 ∗ cellP c 6 ∗ cellP c 7 ∗ cellP c 8 ∗ cellP c 9 ∗ cellP c 10)
end Groups

set_option maxHeartbeats 1000000 in
/-- The body's run: from the argument's tokens, the result in pieces at any contents, the scratch buffers at any contents
    and the semaphores at zero, it ends with the result's pieces at `unpool x` and everything else as it was. -/
theorem bodyRun (c : Dev nD) (x : ABuf (F := F) c) (o : OBuf (F := F) c) (W : Waits sig Unit) (Q : sProp 𝕄) :
    iprop((toksP c x ∗ outP c o ∗ ringP (F := F) c ∗ edgesP (F := F) c ∗ cellsP (F := F) c ∗ owes (c : Thread nD τ) 0 W)
        ∗ (iprop(toksP c x ∗ outP c (unpool x) ∗ ringP (F := F) c ∗ edgesP (F := F) c ∗ cellsP (F := F) c ∗ ∃ W', owes (c : Thread nD τ) 0 W') -∗ Q))
      ⊢ wp frame (wpE (defs₀ (F := F)) Variants.none (c : Thread nD τ) none) Set.univ
          (cc0__unpool_kernel aM (Memref.isWhole_whole _) oM (Memref.isWhole_whole _) bufM (Memref.isWhole_whole _) loM (Memref.isWhole_whole _)
            hiM (Memref.isWhole_whole _) tailM (Memref.isWhole_whole _) cc0_scratch4 cc0_scratch5 cc0_scratch6 cc0_scratch7 cc0_scratch8)
          (fun _ => Q) := by
  iintro ⟨⟨⟨Ht0, Ht1, Ht2, Ht3, Ht8, Ht9⟩,
    ⟨Ho0, Ho1, Ho2, Ho3, Ho4, Ho5, Ho6, Ho7, Ho8, Ho9, Ho10, Ho11, Ho12, Ho13, Ho14, Ho15, HoT⟩,
    ⟨⟨%b0, Hs0⟩, ⟨%b1, Hs1⟩, ⟨%b2, Hs2⟩, ⟨%b3, Hs3⟩⟩, ⟨⟨%lo, Hlo⟩, ⟨%hi, Hhi⟩, ⟨%tl, Htl⟩⟩,
    ⟨Hc0, Hc1, Hc2, Hc3, Hc4, Hc5, Hc6, Hc7, Hc8, Hc9, Hc10⟩, HW⟩, HQ⟩
  sl_unfold [cc0__unpool_kernel]
  sl_exec
  sl_step
  iapply HQ
  isplitl [Ht0 Ht1 Ht2 Ht3 Ht8 Ht9]
  · isplitl [Ht0]; · iexact Ht0
    isplitl [Ht1]; · iexact Ht1
    isplitl [Ht2]; · iexact Ht2
    isplitl [Ht3]; · iexact Ht3
    isplitl [Ht8]; · iexact Ht8
    iexact Ht9
  isplitl [Ho0 Ho1 Ho2 Ho3 Ho4 Ho5 Ho6 Ho7 Ho8 Ho9 Ho10 Ho11 Ho12 Ho13 Ho14 Ho15 HoT]
  · isplitl [Ho0]; · iapply (oP_filled c x o b0 0 0 _); iexact Ho0
    isplitl [Ho1]; · iapply (oP_filled c x o b1 1 1 _); iexact Ho1
    isplitl [Ho2]; · iapply (oP_filled c x o b2 2 2 _); iexact Ho2
    isplitl [Ho3]; · iapply (oP_filled c x o b3 3 3 _); iexact Ho3
    isplitl [Ho4]; · iapply (oP_filled c x o b0 4 0 _); iexact Ho4
    isplitl [Ho5]; · iapply (oP_filled c x o b1 5 1 _); iexact Ho5
    isplitl [Ho6]; · iapply (oP_filled c x o b2 6 2 _); iexact Ho6
    isplitl [Ho7]; · iapply (oP_filled c x o b3 7 3 _); iexact Ho7
    isplitl [Ho8]; · iapply (oP_filled c x o b0 8 0 _); iexact Ho8
    isplitl [Ho9]; · iapply (oP_filled c x o b1 9 1 _); iexact Ho9
    isplitl [Ho10]; · iapply (oP_filled c x o b2 10 2 _); iexact Ho10
    isplitl [Ho11]; · iapply (oP_filled c x o b3 11 3 _); iexact Ho11
    isplitl [Ho12]; · iapply (oP_filled c x o b0 12 0 _); iexact Ho12
    isplitl [Ho13]; · iapply (oP_filled c x o b1 13 1 _); iexact Ho13
    isplitl [Ho14]; · iapply (oP_filled c x o b2 14 2 _); iexact Ho14
    isplitl [Ho15]; · iapply (oP_filled c x o b3 15 3 _); iexact Ho15
    iapply (oTailP_filled c x o lo hi tl); iexact HoT
  isplitl [Hs0 Hs1 Hs2 Hs3]
  · isplitl [Hs0]; · iexists _; iexact Hs0
    isplitl [Hs1]; · iexists _; iexact Hs1
    isplitl [Hs2]; · iexists _; iexact Hs2
    iexists _; iexact Hs3
  isplitl [Hlo Hhi Htl]
  · isplitl [Hlo]; · iexists _; iexact Hlo
    isplitl [Hhi]; · iexists _; iexact Hhi
    iexists _; iexact Htl
  isplitl [Hc0 Hc1 Hc2 Hc3 Hc4 Hc5 Hc6 Hc7 Hc8 Hc9 Hc10]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    iexact Hc10
  iexists _; iexact HW

end Cert.KernelIdeal.Unpool

end
-- ==== Proof.Unpool.Launch.lean ====
/-
  The launch: the argument split into its read tokens, the result and the ring buffer into their pieces, the kernel's body
  run once (`bodyRun`), everything joined back, and the run of the whole program from any memory.
-/
module

public import proofs.«01_k».proof.Proof.Unpool.Run
public import Idealize.ShloMosaic.Lib.Pipeline.FrameBody
public import Idealize.ShloMosaic.Lib.Transfers

@[expose] public section

set_option maxRecDepth 16384

noncomputable section

namespace Cert.KernelIdeal.Unpool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-! ## Splitting and joining the buffers -/

section Split
variable (c : Dev nD)

/-- Piece `n` of the result at the contents `f`. -/
def pieceP (f : OBuf (F := F) c) (n : Fin 17) : sProp 𝕄 := if n.val < 16 then oP c f n.val else oTailP c f

theorem pieceP_eq (f : OBuf (F := F) c) (n : Fin 17) :
    (((c : Thread nD τ).loc main_v0) ↦[oSet n]{fullShare} f : sProp 𝕄) = pieceP c f n := by
  unfold pieceP oSet
  by_cases h : n.val < 16
  · rw [if_pos h, if_pos h, ← oBlk_set]; rfl
  · rw [if_neg h, if_neg h, ← oTail_set]

/-- The result held whole is the result held in its seventeen pieces. -/
theorem out_pieces (f : OBuf (F := F) c) : (((c : Thread nD τ).loc main_v0) ↦{fullShare} f : sProp 𝕄) = outP c f := by
  rw [Ring.pointsTo_blocks (ℓ := (c : Thread nD τ).loc main_v0) oSet oSet_disjoint oSet_cover f, bigSep_congr fun n _ => pieceP_eq c f n,
    bigSep_univ_eq_bigSepL [0, 1, 2, 3, 4, 5, 6, 7, 8, 9, 10, 11, 12, 13, 14, 15, 16] (by decide) (by decide)]
  rfl

/-- The ring buffer held whole is its four slots, all at its contents; -/
theorem ring_split :
    (iprop(∃ f : Buf (Elt F) ((c : Thread nD τ).loc cc0_scratch0), ((c : Thread nD τ).loc cc0_scratch0) ↦{fullShare} f) : sProp 𝕄) ⊢ ringP (F := F) c := by
  iintro ⟨%f, H⟩
  ihave H4 := (Entails.of_eq (show (((c : Thread nD τ).loc cc0_scratch0) ↦{fullShare} f : sProp 𝕄) = iprop(slotP c 0 f ∗ slotP c 1 f ∗ slotP c 2 f ∗ slotP c 3 f) by
    rw [Ring.pointsTo_blocks (ℓ := (c : Thread nD τ).loc cc0_scratch0) (fun a : Fin 4 => slotRows a.val) slot_disjoint slot_cover f,
      bigSep_congr (Ψ := fun a : Fin 4 => slotP c a.val f) fun a _ => by rw [← slot_set]; rfl,
      bigSep_univ_eq_bigSepL [0, 1, 2, 3] (by decide) (by decide)]
    rfl)) $$ H
  icases H4 with ⟨H0, H1, H2, H3⟩
  isplitl [H0]; · iexists f; iexact H0
  isplitl [H1]; · iexists f; iexact H1
  isplitl [H2]; · iexists f; iexact H2
  iexists f; iexact H3
/-- its four slots, each at some contents, are the ring buffer held whole at some contents. -/
theorem ring_join [Nonempty (Buf (Elt F) ((c : Thread nD τ).loc cc0_scratch0))] :
    ringP (F := F) c ⊢ (iprop(∃ f : Buf (Elt F) ((c : Thread nD τ).loc cc0_scratch0), ((c : Thread nD τ).loc cc0_scratch0) ↦{fullShare} f) : sProp 𝕄) := by
  refine Entails.trans (Entails.of_eq ?_) (Ring.pointsTo_blocks_join_exists (ℓ := (c : Thread nD τ).loc cc0_scratch0) (fun a : Fin 4 => slotRows a.val) slot_disjoint slot_cover
    (Classical.arbitrary _))
  symm
  rw [bigSep_congr (Ψ := fun a : Fin 4 => iprop(∃ f, slotP (F := F) c a.val f)) fun a _ => by rw [← slot_set]; rfl,
    bigSep_univ_eq_bigSepL [0, 1, 2, 3] (by decide) (by decide)]
  rfl

/-- What of the argument stays behind: the remainder after eleven tokens, and the five tokens no copy takes. -/
abbrev keptP (x : ABuf (F := F) c) : sProp 𝕄 :=
  iprop((aM.view.loc (c : Thread nD τ) ↦{Transfers.shareDrop fullShare 11} x) ∗ tokP c x 4 ∗ tokP c x 5 ∗ tokP c x 6 ∗ tokP c x 7 ∗ tokP c x 10)

theorem toks_list (x : ABuf (F := F) c) :
    (BI.bigSep Finset.univ (fun i : Fin 11 => (((c : Thread nD τ).loc main_arg0) ↦{Transfers.shareTok fullShare 11 i} x : sProp 𝕄)))
      = iprop(tokP c x 0 ∗ tokP c x 1 ∗ tokP c x 2 ∗ tokP c x 3 ∗ tokP c x 4 ∗ tokP c x 5 ∗ tokP c x 6 ∗ tokP c x 7 ∗ tokP c x 8 ∗ tokP c x 9 ∗ tokP c x 10) := by
  rw [bigSep_univ_eq_bigSepL [0, 1, 2, 3, 4, 5, 6, 7, 8, 9, 10] (by decide) (by decide)]
  rfl

/-- The argument held whole is its tokens for the copies and what stays behind; -/
theorem arg_split (x : ABuf (F := F) c) : (((c : Thread nD τ).loc main_arg0) ↦{fullShare} x : sProp 𝕄) ⊢ iprop(keptP c x ∗ toksP c x) := by
  refine (Transfers.pointsTo_toks_split fullShare 11).trans ?_
  rw [toks_list]
  iintro ⟨HD, H0, H1, H2, H3, H4, H5, H6, H7, H8, H9, H10⟩
  isplitl [HD H4 H5 H6 H7 H10]
  · isplitl [HD]; · iexact HD
    isplitl [H4]; · iexact H4
    isplitl [H5]; · iexact H5
    isplitl [H6]; · iexact H6
    isplitl [H7]; · iexact H7
    iexact H10
  isplitl [H0]; · iexact H0
  isplitl [H1]; · iexact H1
  isplitl [H2]; · iexact H2
  isplitl [H3]; · iexact H3
  isplitl [H8]; · iexact H8
  iexact H9
/-- and these join back. -/
theorem arg_join (x : ABuf (F := F) c) : iprop(keptP c x ∗ toksP c x) ⊢ (((c : Thread nD τ).loc main_arg0) ↦{fullShare} x : sProp 𝕄) := by
  refine BIBase.Entails.trans ?_ (Transfers.pointsTo_toks_join fullShare 11)
  rw [toks_list]
  iintro ⟨⟨HD, H4, H5, H6, H7, H10⟩, H0, H1, H2, H3, H8, H9⟩
  isplitl [HD]; · iexact HD
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
end Split

/-! ## The proof data -/

/-- The kernel's own semaphores, and the buffers that its body reads and writes where they are. -/
abbrev osem : Fin 11 → SemLoc sig := fun j => SemLoc.dma j
theorem ownSemFacts : Pipeline.OwnSemFacts cfg0.spec osem := by decide
def bufs : Finset (Ref sig .tc) := {main_arg0, main_v0}
theorem bufs_sub : bufs ⊆ Pipeline.restRefs sig cfg0.spec := by decide

variable (m : (ℓ : Loc nD τ sig) → Buf (Elt F) ℓ) (ρ : Dev nD → PrngReg)

/-- The buffers' contents at launch, … -/
abbrev before (c : Dev nD) (b : Ref sig .tc) : Buf (Elt F) ((c : Thread nD τ).loc b) := m ((c : Thread nD τ).loc b)
/-- … and at the end: the result holds `unpool` of the argument, everything else what it held. -/
def final (c : Dev nD) : (b : Ref sig .tc) → Buf (Elt F) ((c : Thread nD τ).loc b) :=
  Function.update (before m c) main_v0 (unpool (before m c main_arg0))

theorem final_arg0 (c : Dev nD) : final m c main_arg0 = m ((c : Thread nD τ).loc main_arg0) := Function.update_of_ne (by decide) _ _
theorem final_v0 (c : Dev nD) : final m c main_v0 = unpool (m ((c : Thread nD τ).loc main_arg0)) := Function.update_self _ _ _

/-- What the core holds around the body: the two arrays, the semaphores at zero, the scratch buffers, its generator
    register. -/
abbrev endsP (c : Dev nD) (W : (b : Ref sig .tc) → Buf (Elt F) ((c : Thread nD τ).loc b)) : sProp 𝕄 := Pipeline.Ends cfg0.spec osem bufs c W

theorem endsP_eq (c : Dev nD) (W : (b : Ref sig .tc) → Buf (Elt F) ((c : Thread nD τ).loc b)) :
    endsP c W = iprop(((((c : Thread nD τ).loc main_arg0) ↦{fullShare} W main_arg0) ∗ (((c : Thread nD τ).loc main_v0) ↦{fullShare} W main_v0))
      ∗ cellsP (F := F) c
      ∗ ((∃ f : Buf (Elt F) ((c : Thread nD τ).loc cc0_scratch0), ((c : Thread nD τ).loc cc0_scratch0) ↦{fullShare} f) ∗ edgesP (F := F) c)
      ∗ ∃ r, prngReg c r) := by
  unfold endsP Pipeline.Ends
  rw [Gen.scopedRest0_eq, Pipeline.ownSems0_eq_of_list c osem [0, 1, 2, 3, 4, 5, 6, 7, 8, 9, 10] (by decide) (by decide)]
  unfold Pipeline.routed
  rw [bigSep_eq_bigSepL_of_eq [main_arg0, main_v0] (by decide) (by decide)]
  rfl

/-- What the core holds before the body (point 0) and after it. -/
def around (c : Dev nD) : ℕ → sProp 𝕄
  | 0 => endsP c (before m c)
  | _ + 1 => endsP c (final m c)

def dats (_ : Fin 1) (c : Dev nD) : Dat τ (Elt F) Unit ℕ (Pipeline.UC sig nD τ) ℕ cfg0 c where
  A w := w.elim0
  after w _ := w.elim0
  Φ k := around m c k.val
  q _ := fullShare
  owed _ := 0

/-! ## The body obligation -/

/-- The body table's row is the kernel's body on the buffers that it names. -/
theorem defs_tc : (defs₀ (F := F)) .tc cfg0.body = fun _ => bodyAt0 (F := F) t0_0 := rfl
theorem prog_eq (t : Fin cfg0.N) : (defs₀ (F := F)) .tc cfg0.body (cfg0.bodyArgs t (cfg0.slots t)) = bodyAt0 (F := F) t0_0 :=
  (congrFun defs_tc _).trans rfl

theorem no_windows (Ψ : Fin cfg0.W → sProp 𝕄) : bigSep Finset.univ Ψ = (iprop(emp) : sProp 𝕄) := rfl

theorem body_obligation (c : Dev nD) : BodyObligation (dats (F := F) m 0 c) (defs₀ (F := F)) Variants.none () Set.univ := fun t => by
  obtain rfl : t = t0_0 := fin_N0 t
  rw [no_windows, no_windows]
  rw [show (dats m 0 c).Φ (t0_0 : Fin cfg0.N).castSucc = endsP c (before m c) from rfl,
    show (dats m 0 c).Φ (t0_0 : Fin cfg0.N).succ = endsP c (final m c) from rfl]
  unfold Dat.owesAt Pipeline.owesWithin
  rw [show (dats m 0 c).owed (t0_0 : Fin cfg0.N).castSucc = 0 from rfl, show (dats m 0 c).owed (t0_0 : Fin cfg0.N).succ = 0 from rfl]
  rw [endsP_eq, endsP_eq, final_arg0, final_v0, out_pieces, out_pieces]
  iintro ⟨⟨⟨Ha, Ho⟩, Hc, ⟨Hb, He⟩, Hp⟩, ⟨%W, -, HW⟩, -⟩
  ihave Ha2 := (arg_split c _) $$ Ha
  icases Ha2 with ⟨Hk, Ht⟩
  ihave Hr := (ring_split c) $$ Hb
  sl_rw [prog_eq t0_0]
  iapply (bodyRun c (m ((c : Thread nD τ).loc main_arg0)) (m ((c : Thread nD τ).loc main_v0)) W _)
  isplitl [Ht Ho Hr He Hc HW]
  · isplitl [Ht]; · iexact Ht
    isplitl [Ho]; · iexact Ho
    isplitl [Hr]; · iexact Hr
    isplitl [He]; · iexact He
    isplitl [Hc]; · iexact Hc
    iexact HW
  iintro ⟨Ht, Ho, Hr, He, Hc, ⟨%W', HW⟩⟩
  ihave Ha := (arg_join c (m ((c : Thread nD τ).loc main_arg0))) $$ [Hk Ht]
  · isplitl [Hk]; · iexact Hk
    iexact Ht
  ihave Hb := (ring_join c) $$ Hr
  isplitl [Ha Ho Hc Hb He Hp]
  · isplitl [Ha Ho]
    · isplitl [Ha]; · iexact Ha
      iexact Ho
    isplitl [Hc]; · iexact Hc
    isplitl [Hb He]
    · isplitl [Hb]; · iexact Hb
      iexact He
    iexact Hp
  isplitl [HW]
  · iexists W'; isplitr; · ipureintro; exact fun _ _ => Or.inl trivial
    iexact HW
  iempintro

/-! ## The run -/

/-- For any float values, from any memory with zero counters: every weakly fair execution of the program terminates with
    the result at `unpool` of the argument, the argument unchanged, and every semaphore counter at zero. -/
theorem run : θ_run defs (onTc (τ := τ) (main (F := F))) ⟨m, fun _ => 0, ρ⟩ fun r =>
    (∀ c : Dev nD, r.2.mem ((c.tc : Thread nD τ).loc main_v0) = unpool (m ((c.tc : Thread nD τ).loc main_arg0))
      ∧ r.2.mem ((c.tc : Thread nD τ).loc main_arg0) = m ((c.tc : Thread nD τ).loc main_arg0))
    ∧ r.2.sem = fun _ => 0 :=
  Pipeline.θ_run_frame_routed cfgs (dats m) (0 : Fin 1) launch0 ownSemFacts defs₀ Variants.none m ρ main
    (hbody := fun c => (body_obligation m c).loose) (hshare := fun c => (dats m 0 c).share_full fun _ => rfl)
    (howed := fun _ _ => rfl) (V := before m)
    (hmain := Pipeline.hmain_region cfgs 0 defs₀ Variants.none m main fun c => (main_chain c).trans rfl)
    (hA := fun _ w => w.elim0) (R := bufs) (hR := bufs_sub) (Y := final m)
    (hin := fun c => .rfl)
    (hout := fun c => Entails.of_eq (show around m c grid0.N = endsP c (final m c) by rw [N_0]; rfl))
    (Q' := fun r => (∀ c : Dev nD, r.2.mem ((c.tc : Thread nD τ).loc main_v0) = unpool (m ((c.tc : Thread nD τ).loc main_arg0))
      ∧ r.2.mem ((c.tc : Thread nD τ).loc main_arg0) = m ((c.tc : Thread nD τ).loc main_arg0)) ∧ r.2.sem = fun _ => 0)
    (hQ' := fun r h => ⟨fun c => ⟨((h.1 c).2.1 main_v0 (by decide)).trans (final_v0 m c),
      ((h.1 c).2.1 main_arg0 (by decide)).trans (final_arg0 m c)⟩, h.2⟩)

end Cert.KernelIdeal.Unpool

end
-- ==== Proof.Unpool.Word.lean ====
/-
  The kernel's run at the machine's words. The program as written and the program that is read over the reals are the
  same text, and the run is proved of that text at any float values.
-/
module

public import proofs.«01_k».proof.Proof.Unpool.Launch
public import proofs.«01_k».proof.Proof.Gen.Kernel
public import proofs.«01_k».proof.Defs

@[expose] public section

set_option maxRecDepth 16384

noncomputable section

namespace Cert.Kernel.Unpool

open Idealize.ShloMosaic Idealize.ShloMosaic.TcCoe Idealize.SL.Sem

/-- At the machine's words, from any memory with zero counters: every execution ends, each device's argument holds what it
    held, and every semaphore counter is zero. -/
theorem run (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ fun r =>
    (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0))
    ∧ r.2.sem = fun _ => 0 := by
  have h := Cert.KernelIdeal.Unpool.run (F := Bits) m ρ
  exact (θ_run Cert.Kernel.defs _ _).mono (fun _ h => ⟨fun c => (h.1 c).2, h.2⟩) h

end Cert.Kernel.Unpool

end
-- ==== Proof.Unpool.Reference.lean ====
/-
  What the reference computes, read at an index: the table of rows it gathers, its gather, its sum over a new row's two
  rows, and the array it returns.
-/
module

public import proofs.«01_k».proof.Proof.Gen.ReferenceIdeal
public import Idealize.ShloMosaic.Lib.Pointwise
public import Idealize.ShloMosaic.Lib.ViewIndex
public import Idealize.ShloMosaic.Lib.WordCmp
public import proofs.«01_k».proof.Defs

@[expose] public section

set_option maxRecDepth 16384

noncomputable section

namespace Cert.ReferenceIdeal.Unpool

open Cert.ReferenceIdeal Cert.ReferenceIdeal.Gen Idealize.ShloMosaic Idealize.ShloMosaic.Pointwise

/-- The table holds, for new row `e`, row `e` of the first half and row `e` of the second. -/
theorem table_nat : ∀ p : Fin 128, (lit0 p).toNat = p.val / 2 + 2048 * (p.val % 2) := by
  decide

/-- The start indices of the gather: the table, a negative entry counted from the end. -/
def starts : IVec S64x2x1 32 :=
  broadcastInDim S64x2x1 ![0, 1] bcast_S64x2_S64x2x1_0_1
    (select (cmpi .slt (fun i => lit0 (S64x2.rowMajor i)) (broadcastInDim S64x2 ![] bcast_S_S64x2 (constantI S_ 32 0#32)))
      (addi (fun i => lit0 (S64x2.rowMajor i)) (broadcastInDim S64x2 ![] bcast_S_S64x2 (constantI S_ 32 4096#32)))
      (fun i => lit0 (S64x2.rowMajor i)))

/-- No entry of the table is negative: the start index of new row `e`'s `k`-th row is `e + 2048 k`. -/
theorem starts_toNat (e : Fin 64) (k : Fin 2) (u : Fin 1) : (starts (ix3 e k u)).toInt.toNat = e.val + 2048 * k.val := by
  have hr : (S64x2.rowMajor (ix2 e k)).val = e.val * 2 + k.val := Shape.rowMajor_val_two _
  have hp := table_nat (S64x2.rowMajor (ix2 e k))
  have hi : (lit0 (S64x2.rowMajor (ix2 e k))).toInt = ((lit0 (S64x2.rowMajor (ix2 e k))).toNat : ℤ) :=
    BitVec.toInt_eq_toNat_of_lt (by omega)
  have hs : starts (ix3 e k u) = lit0 (S64x2.rowMajor (ix2 e k)) := by
    unfold starts
    pointwise
    rw [WordCmp.cmpi_slt_zero, decide_eq_false (by omega)]
    rfl
  rw [hs, hi]; omega

/-- The dimension numbers of the gather: whole rows of each batch entry, one row to an entry of the table. -/
abbrev rowDims := gather_S16x4096x512_S64x2x1_S16x64x2x512_03_1_n_n_1_2_161512

/-- The gather at an index: the argument's batch entry, at the row that the start index names, held inside the array. -/
theorem gather_apply {α : Type} (x : S16x4096x512.Idx → α) (idx : IVec S64x2x1 32) (b : Fin 16) (e : Fin 64) (k : Fin 2) (l : Fin 512) :
    Host.gather rowDims x idx (ix4 b e k l) = x (ix3 b ⟨min (idx (ix3 e k 0)).toInt.toNat 4095, by omega⟩ l) := by
  have hb (a : Fin 3) : rowDims.batchCoord (ix4 b e k l) a = 0 := rowDims.batchCoord_eq_zero _ _ List.not_mem_nil
  have h0 : rowDims.start (ix4 b e k l) idx 0 = 0 := dif_neg (show (0 : Fin 3) ∉ [1] by decide)
  have h2 : rowDims.start (ix4 b e k l) idx 2 = 0 := dif_neg (show (2 : Fin 3) ∉ [1] by decide)
  have hk (a : Fin 3) : a ∈ rowDims.sKept ↔ a ≠ 1 := by
    rw [GatherDims.mem_sKept]
    exact ⟨fun h => fun ha => h.1 (List.mem_singleton.mpr ha), fun h => ⟨fun ha => h (List.mem_singleton.mp ha), List.not_mem_nil⟩⟩
  have o0 : rowDims.offCoord (ix4 b e k l) 0 = b.val := by
    unfold GatherDims.offCoord
    rw [dif_pos ((hk 0).mpr (by decide))]; rfl
  have o1 : rowDims.offCoord (ix4 b e k l) 1 = 0 := rowDims.offCoord_eq_zero _ _ fun h => (hk 1).mp h rfl
  have o2 : rowDims.offCoord (ix4 b e k l) 2 = l.val := by
    unfold GatherDims.offCoord
    rw [dif_pos ((hk 2).mpr (by decide))]; rfl
  have h1 : rowDims.start (ix4 b e k l) idx 1 = min (idx (ix3 e k 0)).toInt.toNat 4095 := by
    unfold GatherDims.start
    rw [dif_pos (show (1 : Fin 3) ∈ rowDims.startIndexMap from List.mem_singleton.mpr rfl)]
    have hi : rowDims.siIdx (ix4 b e k l) ⟨List.idxOf (1 : Fin 3) rowDims.startIndexMap,
        List.idxOf_lt_length_iff.2 (List.mem_singleton.mpr rfl)⟩ = ix3 e k 0 := Shape.idx3_ext rfl rfl rfl
    rw [hi]; rfl
  refine congrArg x (Shape.idx3_ext ?_ ?_ ?_)
  · show rowDims.start _ idx 0 + rowDims.batchCoord _ 0 + rowDims.offCoord _ 0 = b.val
    rw [h0, hb, o0]; omega
  · show rowDims.start _ idx 1 + rowDims.batchCoord _ 1 + rowDims.offCoord _ 1 = min (idx (ix3 e k 0)).toInt.toNat 4095
    rw [h1, hb, o1]; omega
  · show rowDims.start _ idx 2 + rowDims.batchCoord _ 2 + rowDims.offCoord _ 2 = l.val
    rw [h2, hb, o2]; omega

/-- Two rows of one number are one row. -/
theorem row_congr {α : Type} (x : S16x4096x512.Idx → α) (b : Fin 16) (l : Fin 512) {r r' : Fin 4096} (h : r.val = r'.val) :
    x (ix3 b r l) = x (ix3 b r' l) := by
  rw [Fin.ext h]

/-- The gathered rows: new row `e`'s `k`-th row is row `e + 2048 k` of the argument. -/
theorem gather_starts {α : Type} (x : S16x4096x512.Idx → α) (b : Fin 16) (e : Fin 64) (k : Fin 2) (l : Fin 512) :
    Host.gather rowDims x starts (ix4 b e k l) = x (ix3 b ⟨e.val + 2048 * k.val, by omega⟩ l) := by
  refine (gather_apply x starts b e k l).trans (row_congr x b l ?_)
  show min (starts (ix3 e k 0)).toInt.toNat 4095 = e.val + 2048 * k.val
  rw [starts_toNat]; omega

/-- What the reference returns, as it is written: the argument, and behind it half the sums of the gathered rows. -/
def result (x : FVec Ideal S16x4096x512 .f32) : FVec Ideal S16x4160x512 .f32 :=
  concatenate S16x4160x512 1 [⟨S16x4096x512, x⟩,
    ⟨S16x64x512, mulf (broadcastInDim S16x64x512 ![] bcast_S_S16x64x512 (constant S_ .f32 0x3F000000#32))
      (Host.reduceAdd (Host.gather rowDims x starts) (constant S_ .f32 0x00000000#32) reducesTo_S16x64x2x512_S16x64x512_d2 h_S_)⟩]
    concatenates_S16x4096x512_S16x64x512_S16x4160x512_d1

/-- The reference's result at an index: a row of the argument, or half the sum of the two rows that the table names. -/
theorem result_apply (x : FVec Ideal S16x4096x512 .f32) (b : Fin 16) (r : Fin 4160) (l : Fin 512) :
    result x (ix3 b r l) = if h : r.val < 4096 then x (ix3 b ⟨r.val, h⟩ l)
      else Ideal.ofBits .f32 0x3F000000#32 * (x (ix3 b ⟨r.val - 4096, by omega⟩ l) + x (ix3 b ⟨2048 + (r.val - 4096), by omega⟩ l)) := by
  unfold result
  pointwise
  by_cases h : r.val < 4096
  · simp only [h, ↓reduceDIte]
  simp only [h, ↓reduceDIte]
  rw [Fin.sum_univ_two, gather_starts, gather_starts]
  rw [row_congr x b l (r := ⟨(r.val - 4096) + 2048 * (0 : Fin 2).val, by omega⟩) (r' := ⟨r.val - 4096, by omega⟩) (by simp),
    row_congr x b l (r := ⟨(r.val - 4096) + 2048 * (1 : Fin 2).val, by omega⟩) (r' := ⟨2048 + (r.val - 4096), by omega⟩)
      (by simp [Nat.add_comm])]

end Cert.ReferenceIdeal.Unpool

end
-- ==== Proof.Unpool.Equation.lean ====
/-
  The equation: over the extended reals the array that the kernel leaves is the array that the reference returns.
-/
module

public import proofs.«01_k».proof.Proof.Unpool.Pieces
public import proofs.«01_k».proof.Proof.Unpool.Reference

@[expose] public section

noncomputable section

namespace Cert.Unpool

open Idealize.ShloMosaic Idealize.ShloMosaic.Pointwise

/-- A new row of the kernel at an index: half the sum of its two rows. -/
theorem midpoints_apply (x : FVec Ideal Cert.KernelIdeal.S16x4096x512 .f32) (b : Fin 16) (e : Fin 64) (l : Fin 512) :
    Cert.KernelIdeal.Unpool.midpoints (F := Ideal) x (ix3 b e l)
      = Ideal.ofBits .f32 0x3F000000#32 * (x (ix3 b ⟨0 + e.val, by omega⟩ l) + x (ix3 b ⟨2048 + e.val, by omega⟩ l)) := rfl

/-- The two arrays agree at every index. -/
theorem unpool_eq_result (x : FVec Ideal Cert.KernelIdeal.S16x4096x512 .f32) :
    Cert.KernelIdeal.Unpool.unpool (F := Ideal) x = Cert.ReferenceIdeal.Unpool.result x := by
  funext i
  obtain ⟨b, r, l, rfl⟩ : ∃ (b : Fin 16) (r : Fin 4160) (l : Fin 512), i = ix3 b r l :=
    ⟨i 0, i 1, i 2, Shape.idx3_ext rfl rfl rfl⟩
  refine Eq.trans ?_ (Cert.ReferenceIdeal.Unpool.result_apply x b r l).symm
  unfold Cert.KernelIdeal.Unpool.unpool
  refine dite_congr rfl (fun _ => rfl) fun h => (midpoints_apply x b ⟨r.val - 4096, by omega⟩ l).trans ?_
  rw [Cert.ReferenceIdeal.Unpool.row_congr x b l (r := ⟨0 + (r.val - 4096), by omega⟩) (r' := ⟨r.val - 4096, by omega⟩) (Nat.zero_add _)]

end Cert.Unpool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Unpool.Launch
public import proofs.«01_k».proof.Proof.Unpool.Word
public import proofs.«01_k».proof.Proof.Unpool.Equation
public import Idealize.ShloMosaic.Adequacy
public import Idealize.ShloMosaic.Init

@[expose] public section

noncomputable section

namespace Cert.Proof

open Idealize.ShloMosaic Idealize.SL.Sem Cert.Kernel

/-- The kernel at the machine's words ends, leaves its argument as it was and every counter at zero. -/
theorem frame_kernel : Cert.quiescent_Kernel (hKernel := Cert.Kernel.Gen.facts) := fun m ρ _ => Cert.Kernel.Unpool.run m ρ

/-- So does the kernel over the extended reals, … -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Unpool.run (F := Ideal) m ρ)

/-- … and the reference, which declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's text over the extended reals is the kernel's own text: no operation is replaced. -/
theorem preserves : Cert.preserves_Kernel_KernelIdeal := trivial

/-- Over the extended reals, from equal arguments, the kernel's result is the reference's. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Unpool.unpool (m ((c.tc : Thread Cert.KernelIdeal.nD Cert.KernelIdeal.τ).loc Cert.KernelIdeal.main_arg0)), ?_, ?_⟩
  · exact (θ_run Cert.KernelIdeal.defs _ _).mono (fun _ h => h.1) (Cert.KernelIdeal.Unpool.run (F := Ideal) m ρ)
  · refine (θ_run Cert.ReferenceIdeal.defs _ _).mono (fun _ h c => ⟨(h c).1.trans ?_, (h c).2⟩)
      (Cert.ReferenceIdeal.Value.run (F := Ideal) m' ρ')
    rw [hagree c]
    exact (Cert.Unpool.unpool_eq_result _).symm

/-- The claim: the three programs' runs, the kernel's text, and the kernel's value. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
